-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S1024x128 : Shape := ⟨2, ![1024, 128]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x2048x1024 .f32) (main_arg1 : FVec F S4x2048x1024 .f32) (main_arg2 : FVec F S1024x128 .f32) (main_arg3 : FVec F S1024x128 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x2048x1024 : Shape := ⟨3, ![4, 2048, 1024]⟩
abbrev S1024x128 : Shape := ⟨2, ![1024, 128]⟩
abbrev S4x2048x128 : Shape := ⟨3, ![4, 2048, 128]⟩
abbrev S1x2048x1024 : Shape := ⟨3, ![1, 2048, 1024]⟩
abbrev S1x2048x128 : Shape := ⟨3, ![1, 2048, 128]⟩
abbrev S2048x1024 : Shape := ⟨2, ![2048, 1024]⟩
abbrev S2048x128 : Shape := ⟨2, ![2048, 128]⟩
abbrev S4x1x2048 : Shape := ⟨3, ![4, 1, 2048]⟩
abbrev S1x512x128 : Shape := ⟨3, ![1, 512, 128]⟩
abbrev S1x1x512 : Shape := ⟨3, ![1, 1, 512]⟩
abbrev S512x128 : Shape := ⟨2, ![512, 128]⟩
abbrev S2048x512 : Shape := ⟨2, ![2048, 512]⟩
abbrev S512 : Shape := ⟨1, ![512]⟩
abbrev S1x512 : Shape := ⟨2, ![1, 512]⟩
abbrev S4x1x256 : Shape := ⟨3, ![4, 1, 256]⟩
abbrev S4x256x1024 : Shape := ⟨3, ![4, 256, 1024]⟩
abbrev S1x1x2048 : Shape := ⟨3, ![1, 1, 2048]⟩
abbrev S1x1x256 : Shape := ⟨3, ![1, 1, 256]⟩
abbrev S1x256x1024 : Shape := ⟨3, ![1, 256, 1024]⟩
abbrev S2048 : Shape := ⟨1, ![2048]⟩
abbrev S1x2048 : Shape := ⟨2, ![1, 2048]⟩
abbrev S512x1 : Shape := ⟨2, ![512, 1]⟩
abbrev S512x2048 : Shape := ⟨2, ![512, 2048]⟩
abbrev S2048x256 : Shape := ⟨2, ![2048, 256]⟩
abbrev S2048x1 : Shape := ⟨2, ![2048, 1]⟩
abbrev S256 : Shape := ⟨1, ![256]⟩
abbrev S256x1024 : Shape := ⟨2, ![256, 1024]⟩
abbrev S4x256 : Shape := ⟨2, ![4, 256]⟩
abbrev S4x2048 : Shape := ⟨2, ![4, 2048]⟩

abbrev nBuf : Space → Nat
  | .hbm => 11
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x128, .f32⟩
  | .hbm, ⟨3, _⟩ => ⟨S1024x128, .f32⟩
  | .hbm, ⟨4, _⟩ => ⟨S4x2048x128, .bf16⟩
  | .hbm, ⟨5, _⟩ => ⟨S4x2048x128, .bf16⟩
  | .hbm, ⟨6, _⟩ => ⟨S4x1x2048, .f32⟩
  | .hbm, ⟨7, _⟩ => ⟨S4x1x256, .i32⟩
  | .hbm, ⟨8, _⟩ => ⟨S4x256x1024, .f32⟩
  | .hbm, ⟨9, _⟩ => ⟨S4x256, .i32⟩
  | .hbm, ⟨10, _⟩ => ⟨S4x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x128, .f32⟩
  | .local _ .vmem, ⟨3, _⟩ => ⟨S1x2048x128, .bf16⟩
  | .local _ .vmem, ⟨4, _⟩ => ⟨S1x2048x128, .bf16⟩
  | .local _ .vmem, ⟨5, _⟩ => ⟨S1x2048x1024, .f32⟩
  | .local _ .vmem, ⟨6, _⟩ => ⟨S1x2048x1024, .f32⟩
  | .local _ .vmem, ⟨7, _⟩ => ⟨S1024x128, .f32⟩
  | .local _ .vmem, ⟨8, _⟩ => ⟨S1x2048x128, .bf16⟩
  | .local _ .vmem, ⟨9, _⟩ => ⟨S1x2048x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x1x512, .f32⟩
  | .local _ .vmem, ⟨15, _⟩ => ⟨S1x1x512, .f32⟩
  | .local _ .vmem, ⟨16, _⟩ => ⟨S1x1x2048, .f32⟩
  | .local _ .vmem, ⟨17, _⟩ => ⟨S1x1x2048, .f32⟩
  | .local _ .vmem, ⟨18, _⟩ => ⟨S1x2048x1024, .f32⟩
  | .local _ .vmem, ⟨19, _⟩ => ⟨S1x2048x1024, .f32⟩
  | .local _ .vmem, ⟨20, _⟩ => ⟨S1x1x256, .i32⟩
  | .local _ .vmem, ⟨21, _⟩ => ⟨S1x1x256, .i32⟩
  | .local _ .vmem, ⟨22, _⟩ => ⟨S1x256x1024, .f32⟩
  | .local _ .vmem, ⟨23, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S4x2048x1024 : Shape := ⟨3, ![4, 2048, 1024]⟩
abbrev S1024x128 : Shape := ⟨2, ![1024, 128]⟩
abbrev S_ : Shape := ⟨0, ![]⟩
abbrev S4x2048x128 : Shape := ⟨3, ![4, 2048, 128]⟩
abbrev S4x128x2048 : Shape := ⟨3, ![4, 128, 2048]⟩
abbrev S4x2048x2048 : Shape := ⟨3, ![4, 2048, 2048]⟩
abbrev S4x2048 : Shape := ⟨2, ![4, 2048]⟩
abbrev S4x256 : Shape := ⟨2, ![4, 256]⟩
abbrev S4x256x1 : Shape := ⟨3, ![4, 256, 1]⟩
abbrev S1 : Shape := ⟨1, ![1]⟩
abbrev S1x1x1 : Shape := ⟨3, ![1, 1, 1]⟩
abbrev S4x256x1024 : Shape := ⟨3, ![4, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2048x128, .f32⟩
  | .hbm, ⟨9, _⟩ => ⟨S4x2048x128, .f32⟩
  | .hbm, ⟨10, _⟩ => ⟨S4x128x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x256, .f32⟩
  | .hbm, ⟨19, _⟩ => ⟨S4x256, .i32⟩
  | .hbm, ⟨20, _⟩ => ⟨S4x256x1, .i32⟩
  | .hbm, ⟨21, _⟩ => ⟨S_, .i32⟩
  | .hbm, ⟨22, _⟩ => ⟨S4x256x1, .i32⟩
  | .hbm, ⟨23, _⟩ => ⟨S4x256x1, .i1⟩
  | .hbm, ⟨24, _⟩ => ⟨S_, .i32⟩
  | .hbm, ⟨25, _⟩ => ⟨S4x256x1, .i32⟩
  | .hbm, ⟨26, _⟩ => ⟨S4x256x1, .i32⟩
  | .hbm, ⟨27, _⟩ => ⟨S4x256x1, .i32⟩
  | .hbm, ⟨28, _⟩ => ⟨S1, .i32⟩
  | .hbm, ⟨29, _⟩ => ⟨S_, .i32⟩
  | .hbm, ⟨30, _⟩ => ⟨S4x256x1, .i32⟩
  | .hbm, ⟨31, _⟩ => ⟨S4x256x1, .i1⟩
  | .hbm, ⟨32, _⟩ => ⟨S1x1x1, .i32⟩
  | .hbm, ⟨33, _⟩ => ⟨S4x256x1, .i32⟩
  | .hbm, ⟨34, _⟩ => ⟨S4x256x1, .i1⟩
  | .hbm, ⟨35, _⟩ => ⟨S4x256x1, .i1⟩
  | .hbm, ⟨36, _⟩ => ⟨S_, .i1⟩
  | .hbm, ⟨37, _⟩ => ⟨S4x256, .i1⟩
  | .hbm, ⟨38, _⟩ => ⟨S4x256x1024, .f32⟩
  | .hbm, ⟨39, _⟩ => ⟨S4x256x1024, .i1⟩
  | .hbm, ⟨40, _⟩ => ⟨S_, .f32⟩
  | .hbm, ⟨41, _⟩ => ⟨S4x256x1024, .f32⟩
  | .hbm, ⟨42, _⟩ => ⟨S4x256x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_c_2 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_c_3 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== Proof.Order.lean ====
/-
  The order by which the routing selects. A position comes before another when its key is greater, or the keys are
  equal and it stands earlier. Under that order the number of positions before a given one IS the place the stable
  descending sort gives it: so counting those that come before, as the kernel does, and sorting, as the reference
  does, select the same positions in the same order.
-/
module

public import Idealize.ShloMosaic.Lib.SortPrefix
public import Mathlib.Algebra.BigOperators.Group.Finset.Basic
public import Mathlib.Data.Fintype.Card

@[expose] public section

namespace Cert.Order

open Idealize.ShloMosaic

variable {n : ℕ} {κ : Type} [LinearOrder κ]

/-- `a` comes before `b`: its key is greater, or the keys are equal and `a` stands earlier. -/
def before (s : Fin n → κ) (a b : Fin n) : Bool := decide (s b < s a) || (decide (s a = s b) && decide (a < b))

/-- The place of `i`: how many positions come before it. -/
def place (s : Fin n → κ) (i : Fin n) : ℕ := (Finset.univ.filter fun j => before s j i = true).card

/-- The order of `before` is strict and total, whatever the keys. -/
theorem before_total (s : Fin n → κ) : StrictTotalBefore (before s) :=
  StrictTotalBefore.of_key_then_position (fun a b => decide (b < a)) s (fun a => by simp)
    (fun a b c h₁ h₂ => by simp only [decide_eq_true_eq] at h₁ h₂ ⊢; exact h₂.trans h₁)
    (fun a b => by simp only [decide_eq_true_eq]; rcases lt_trichotomy a b with h | h | h <;> simp [h])

/-- Two comparators that agree whenever the second of the two elements stands earlier in the list sort that list
    alike: the insertion sort only ever asks about such pairs. -/
theorem stableSort_of_later {ι : Type} (R R' : ι → ι → Bool) (l : List ι)
    (h : l.Pairwise fun a b => R b a = R' b a) : stableSort R l = stableSort R' l := by
  induction h with
  | nil => rfl
  | @cons a l ha _ ih =>
    unfold stableSort
    rw [ih]
    exact insertBefore_congr R R' a _ fun b hb => ha b ((perm_stableSort R' l).mem_iff.mp hb)

/-- The stable sort by greater key alone is the sort by `before`: ties keep the order of the positions. -/
theorem sortedFrom_key (s : Fin n → κ) :
    sortedFrom (fun a b : Fin n => decide (s b < s a)) = sortedFrom (before s) := by
  have e : sortPositions n (fun a b : Fin n => decide (s b < s a)) = sortPositions n (before s) := by
    refine stableSort_of_later _ _ _ ((List.pairwise_lt_finRange n).imp ?_)
    intro a b hab
    have : decide (b < a) = false := decide_eq_false (not_lt.mpr hab.le)
    simp only [before, this, Bool.and_false, Bool.or_false]
  funext k
  unfold sortedFrom
  rw [List.get_of_eq e]
  rfl

/-- Among sorted places, one comes before another exactly when it is smaller. -/
theorem before_sortedFrom (s : Fin n → κ) (i j : Fin n) :
    before s (sortedFrom (before s) i) (sortedFrom (before s) j) = true ↔ i < j := by
  have hB := before_total s
  have hno := fun (i j : Fin n) (hij : i < j) => sortedFrom_noInversion (before s) (before s)
    (fun a b h => hB.asymm a b h) (fun _ _ h => h) hB.negTrans i j hij
  constructor
  · intro h
    rcases lt_trichotomy i j with hij | hij | hij
    · exact hij
    · subst hij; rw [hB.irrefl] at h; exact absurd h (by decide)
    · rw [hno j i hij] at h; exact absurd h (by decide)
  · intro hij
    rcases hB.total (sortedFrom (before s) i) (sortedFrom (before s) j)
      (fun e => hij.ne (sortedFrom_injective _ e)) with h | h
    · exact h
    · rw [hno i j hij] at h; exact absurd h (by decide)

/-- The place of the position that the sort puts `k`-th is `k`. -/
theorem place_sortedFrom (s : Fin n → κ) (k : Fin n) : place s (sortedFrom (before s) k) = k.val := by
  have e : (Finset.univ.filter fun j => before s j (sortedFrom (before s) k) = true)
      = (Finset.univ.filter fun i : Fin n => i < k).map ⟨sortedFrom (before s), sortedFrom_injective _⟩ := by
    ext j
    obtain ⟨i, rfl⟩ := sortedFrom_surjective (before s) j
    simp only [Finset.mem_filter, Finset.mem_univ, true_and, Finset.mem_map, Function.Embedding.coeFn_mk,
      before_sortedFrom]
    exact ⟨fun h => ⟨i, h, rfl⟩, fun ⟨i', h, e⟩ => sortedFrom_injective _ e ▸ h⟩
  unfold place
  rw [e, Finset.card_map, show (Finset.univ.filter fun i : Fin n => i < k) = Finset.Iio k from by ext; simp]
  exact Fin.card_Iio k

/-- A position has place `k` exactly when the sort puts it `k`-th. -/
theorem place_eq_iff (s : Fin n → κ) (i k : Fin n) : place s i = k.val ↔ i = sortedFrom (before s) k := by
  constructor
  · intro h
    obtain ⟨k', rfl⟩ := sortedFrom_surjective (before s) i
    rw [place_sortedFrom] at h
    rw [Fin.ext h]
  · rintro rfl
    exact place_sortedFrom s k

/-- A place is less than the number of positions. -/
theorem place_lt (s : Fin n → κ) (i : Fin n) : place s i < n := by
  obtain ⟨k, rfl⟩ := sortedFrom_surjective (before s) i
  rw [place_sortedFrom]
  exact k.isLt

end Cert.Order

end
-- ==== Proof.Words.lean ====
/-
  The kernel's counting, in 32-bit words: a row sum of the indicator "comes before" is the position's place, and the
  row of `k`-th place is read off by a sum over the rows, all but one of whose terms are zero.
-/
module

public import proofs.«01_k».proof.Proof.Order
public import Idealize.ShloMosaic.PureOps
public import Idealize.ShloMosaic.Lib.IndicatorCount
public import Idealize.ShloMosaic.Lib.Pointwise

@[expose] public section

noncomputable section

namespace Cert.Words

open Idealize.ShloMosaic Cert.Order

/-- Below `2 ^ 31` the signed compare of two naturals' words is the compare of the naturals. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, BitVec.toInt_eq_toNat_of_lt (by simp; omega),
    BitVec.toInt_eq_toNat_of_lt (by simp; omega)]
  congr 1
  simp only [BitVec.toNat_ofNat, Nat.mod_eq_of_lt (show a < 2 ^ 32 by omega),
    Nat.mod_eq_of_lt (show b < 2 ^ 32 by omega), Nat.cast_lt]

/-- Below `2 ^ 32` the words of two naturals are equal exactly when the naturals are. -/
theorem eq_ofNat (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq, ← BitVec.toNat_inj, BitVec.toNat_ofNat, Nat.mod_eq_of_lt ha,
    Nat.mod_eq_of_lt hb]

/-- A select on a decided condition is the conditional. -/
theorem select_ofBool {α : Type} (p : Prop) [Decidable p] (x y : α) :
    Scalar.select (BitVec.ofBool (decide p)) x y = if p then x else y := by
  by_cases h : p <;> simp [Scalar.select, h]

/-- ONE ROW OF THE COUNT. Summed over all positions `j`, the word 1 where `j`'s key is greater than `i`'s, or the keys
    are equal and `j < i`, is `i`'s place. (`w` is `i` as the kernel spells it, chunk offset and all.) -/
theorem count_eq_place (f : Fin 2048 → EReal) (i : Fin 2048) (w : BitVec 32) (hw : w = BitVec.ofNat 32 i.val) :
    Finset.univ.fold IntOp.addi (0#32) (fun j : Fin 2048 =>
      Scalar.select (IntOp.ori (BitVec.ofBool (decide (f i < f j)))
        (IntOp.andi (BitVec.ofBool (decide (f j = f i))) (IntOp.cmpi .slt (BitVec.ofNat 32 j.val) w))) (1#32) (0#32))
    = BitVec.ofNat 32 (place f i) := by
  subst hw
  have e : ∀ j : Fin 2048, Scalar.select (IntOp.ori (BitVec.ofBool (decide (f i < f j)))
        (IntOp.andi (BitVec.ofBool (decide (f j = f i)))
          (IntOp.cmpi .slt (BitVec.ofNat 32 j.val) (BitVec.ofNat 32 i.val)))) (1#32) (0#32)
      = (BitVec.ofBool (before f j i)).setWidth 32 := by
    intro j
    rw [slt_ofNat _ _ (by have := j.isLt; omega) (by have := i.isLt; omega)]
    unfold before
    rw [show decide (j < i) = decide (j.val < i.val) from rfl]
    generalize decide (f i < f j) = a
    generalize decide (f j = f i) = b
    generalize decide (j.val < i.val) = c
    revert a b c
    decide
  simp only [e]
  rw [IndicatorCount.fold_addi_setWidth_eq_card]
  unfold place
  congr 2
  ext j
  simp only [Finset.mem_filter, Finset.mem_univ, true_and]
  cases before f j i <;> decide

/-- A sum of words all of which but `t`'s are zero is `t`'s. -/
theorem fold_single {ι : Type} [DecidableEq ι] (S : Finset ι) (t : ι) (v : ι → BitVec 32) :
    S.fold IntOp.addi (0#32) (fun x => if x = t then v x else 0#32) = if t ∈ S then v t else 0#32 := by
  induction S using Finset.induction_on with
  | empty => rfl
  | insert a S ha ih =>
    rw [Finset.fold_insert ha, ih]
    by_cases h : a = t
    · subst h
      rw [if_pos rfl, if_neg ha, if_pos (Finset.mem_insert_self _ _)]
      exact BitVec.add_zero _
    · rw [if_neg h]
      have : t ∈ insert a S ↔ t ∈ S := by simp [Ne.symm h]
      simp only [this]
      exact BitVec.zero_add _

/-- The position that the descending stable sort of the keys `f` puts `k`-th, of the first 256. -/
def chosen (f : Fin 2048 → EReal) (k : Fin 256) : Fin 2048 := sortedFrom (before f) (k.castLE (by decide))

/-- The kernel's test "`i`'s place is `k`" holds exactly at the position sorted `k`-th. -/
theorem test_eq (f : Fin 2048 → EReal) (i : Fin 2048) (k : Fin 256) :
    IntOp.cmpi .eq (BitVec.ofNat 32 (place f i)) (BitVec.ofNat 32 k.val) = BitVec.ofBool (decide (i = chosen f k)) := by
  rw [eq_ofNat _ _ (by have := place_lt f i; omega) (by have := k.isLt; omega)]
  congr 2
  exact propext (place_eq_iff f i (k.castLE (by decide)))

/-- THE SELECTED POSITION'S WORD. Summed over all positions `i`, the word of `i` where its place is `k`, and zero
    elsewhere, is the word of the position sorted `k`-th. -/
theorem sum_eq_chosen (f : Fin 2048 → EReal) (k : Fin 256) :
    Finset.univ.fold IntOp.addi (0#32) (fun i : Fin 2048 =>
      Scalar.select (IntOp.cmpi .eq (BitVec.ofNat 32 (place f i)) (BitVec.ofNat 32 k.val)) (BitVec.ofNat 32 i.val) (0#32))
    = BitVec.ofNat 32 (chosen f k).val := by
  simp only [test_eq, select_ofBool]
  exact (fold_single Finset.univ (chosen f k) fun i => BitVec.ofNat 32 i.val).trans (if_pos (Finset.mem_univ _))

/-- THE SELECTED ROW'S ENTRY. Summed over all positions, `h` where the place is `k` and zero elsewhere (a one-hot column
    against the column `h`) is `h` at the position sorted `k`-th, whatever the other entries are. -/
theorem onehot_eq_chosen (f : Fin 2048 → EReal) (k : Fin 256) (h : Fin 2048 → EReal) :
    (∑ i : Fin 2048, Scalar.select (IntOp.cmpi .eq (BitVec.ofNat 32 (place f i)) (BitVec.ofNat 32 k.val)) (h i) 0)
    = h (chosen f k) := by
  simp only [test_eq, select_ofBool]
  rw [Finset.sum_ite_eq' Finset.univ (chosen f k) h, if_pos (Finset.mem_univ _)]

end Cert.Words

end

end
-- ==== Proof.Score.lean ====
/-
  The score. The kernel takes a row's logarithm of the sum of exponentials after subtracting the row's maximum and adds
  the maximum back, which on real numbers is the logarithm of the plain sum. Off the reals it is not (a row with an
  infinite entry), so this is where the arguments' finiteness enters.
-/
module

public import Idealize.ShloMosaic.PureOps
public import Idealize.ShloMosaic.Lib.Pointwise

@[expose] public section

noncomputable section

namespace Cert.Score

open Idealize.ShloMosaic

/-- An extended real that is a real number. -/
def IsReal (a : EReal) : Prop := ∃ r : ℝ, a = (r : EReal)

/-- A product of real numbers is one. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The sum of real numbers, taken among the extended reals, is the real sum. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A finite sum of real numbers is one. -/
theorem IsReal.sum {n : ℕ} {f : Fin n → EReal} (h : ∀ i, IsReal (f i)) : IsReal (∑ i, f i) := by
  choose g hg using h
  exact ⟨∑ i, g i, by simp only [hg, sum_coe]⟩

/-- The maximum with the bottom element of finitely many, at least one, real numbers is one of them. -/
theorem isReal_fold_max {n : ℕ} {f : Fin (n + 1) → EReal} (h : ∀ i, IsReal (f i)) :
    IsReal (Finset.univ.fold max ⊥ f) := by
  have key : ∀ S : Finset (Fin (n + 1)), S.fold max ⊥ f = ⊥ ∨ IsReal (S.fold max ⊥ f) := by
    intro S
    induction S using Finset.induction_on with
    | empty => exact Or.inl Finset.fold_empty
    | insert a S ha ih =>
      rw [Finset.fold_insert ha]
      rcases ih with e | e
      · rw [e, max_eq_left bot_le]; exact Or.inr (h a)
      · rcases max_choice (f a) (S.fold max ⊥ f) with e' | e'
        · rw [e']; exact Or.inr (h a)
        · rw [e']; exact Or.inr e
  rcases key Finset.univ with e | e
  · have h0 : f 0 ≤ Finset.univ.fold max ⊥ f :=
      (Finset.le_fold_max (f 0)).mpr (Or.inr ⟨0, Finset.mem_univ _, le_refl _⟩)
    obtain ⟨r, hr⟩ := h 0
    rw [e, hr] at h0
    exact absurd (le_bot_iff.mp h0) (EReal.coe_ne_bot r)
  · exact e

/-- An extended real whose magnitude is below `⊤` is a real number. -/
theorem isReal_of_abs_lt (a : EReal) (h : max a (-a) < ⊤) : IsReal a := by
  induction a with
  | bot => simp at h
  | top => simp at h
  | coe r => exact ⟨r, rfl⟩

/-- The largest entry of a row, `⊥` where there is none. -/
def rowMax {n : ℕ} (s : Fin n → EReal) : EReal := Finset.univ.fold max ⊥ s

/-- A row's logarithm of the sum of exponentials, as the kernel takes it: each entry less the row's maximum, the sum's
    magnitude, the maximum added back. -/
def shiftedLse {n : ℕ} (s : Fin n → EReal) : EReal :=
  Ideal.log (FloatOps.absf (F := Ideal) (φ := .f32) (∑ j, Ideal.exp (s j - rowMax s))) + rowMax s

/-- A row's logarithm of the sum of exponentials, by its definition. -/
def lse {n : ℕ} (s : Fin n → EReal) : EReal := Ideal.log (∑ j, Ideal.exp (s j))

/-- On a row of real numbers the shifted form is the definition. -/
theorem shiftedLse_eq_lse {n : ℕ} (s : Fin (n + 1) → EReal) (h : ∀ j, IsReal (s j)) : shiftedLse s = lse s := by
  obtain ⟨M, hM⟩ := isReal_fold_max h
  choose g hg using h
  unfold shiftedLse lse rowMax
  rw [hM]
  have hpos : 0 < ∑ j, Real.exp (g j) :=
    Finset.sum_pos (fun j _ => Real.exp_pos _) ⟨0, Finset.mem_univ _⟩
  have hsum : ∑ j, Real.exp (g j - M) = (∑ j, Real.exp (g j)) * Real.exp (-M) := by
    rw [Finset.sum_mul]
    exact Finset.sum_congr rfl fun j _ => by rw [← Real.exp_add, sub_eq_add_neg]
  have hpos' : 0 < ∑ j, Real.exp (g j - M) := hsum ▸ mul_pos hpos (Real.exp_pos _)
  have habs : FloatOps.absf (F := Ideal) (φ := .f32) ((∑ j, Real.exp (g j - M) : ℝ) : EReal)
      = ((∑ j, Real.exp (g j - M) : ℝ) : EReal) := by
    show max _ (-_) = _
    rw [← EReal.coe_neg]
    exact max_eq_left (EReal.coe_le_coe_iff.mpr (by linarith))
  simp only [hg, ← EReal.coe_sub, Ideal.exp_coe, sum_coe]
  rw [habs, Ideal.log_coe, Ideal.log_coe, if_neg (not_le.mpr hpos'), if_neg (not_le.mpr hpos), hsum,
    Real.log_mul hpos.ne' (Real.exp_pos _).ne', Real.log_exp, ← EReal.coe_add]
  congr 1
  ring

/-- The f32 pattern of negative infinity is the bottom element. -/
theorem ofBits_neg_inf : Ideal.ofBits .f32 0xFF800000#32 = ⊥ := by simp [Ideal.ofBits, Ideal.ieee]

/-- The f32 pattern of infinity is the top element. -/
theorem ofBits_inf : Ideal.ofBits .f32 0x7F800000#32 = ⊤ := by simp [Ideal.ofBits, Ideal.ieee]

/-- The f32 pattern of 128 is the number 128. -/
theorem ofBits_128 : Ideal.ofBits .f32 0x43000000#32 = ((128 : ℝ) : EReal) := by
  simp [Ideal.ofBits, Ideal.ieee, -EReal.coe_mul]; norm_num

/-- The scale, as the reference takes it at run time: the quotient of 1 by the root of 128. -/
theorem scale_eq : Ideal.div 1 (Ideal.sqrt (Ideal.ofBits .f32 0x43000000#32)) = (((Real.sqrt 128)⁻¹ : ℝ) : EReal) := by
  rw [ofBits_128, Ideal.sqrt_coe, if_neg (by norm_num),
    Ideal.div_coe (Real.sqrt_pos.mpr (by norm_num : (0 : ℝ) < 128)).ne', one_mul, one_div]

end Cert.Score

end

end
-- ==== Proof.Blocks.lean ====
/-
  What one grid point of each of the four calls computes from its blocks, entry by entry: the two projections a matrix
  product, the scores a shifted logarithm of a sum of exponentials along the keys, the selection the positions that the
  descending stable sort of the scores puts first, and the rows at them.
-/
module

public import proofs.«01_k».proof.Proof.Gen.KernelIdeal.Frame
public import proofs.«01_k».proof.Proof.Words
public import proofs.«01_k».proof.Proof.Score
public import Idealize.ShloMosaic.Lib.Pointwise
public import Idealize.ShloMosaic.Lib.Pipeline.ValueKit

@[expose] public section

set_option maxRecDepth 16384

noncomputable section

namespace Cert.KernelIdeal.Blocks

open Idealize.ShloMosaic Idealize.SL.Sem Cert.KernelIdeal Cert.KernelIdeal.Gen Cert.Order Cert.Words Cert.Score

/-- The kernel's named constant is the real number 1/√128. -/
theorem named_scale : Named.named (F := Ideal) κ "scale" (φ := .f32) 0x3DB504F3#32 = (((Real.sqrt 128)⁻¹ : ℝ) : EReal) :=
  IdealRules.named_const.ideal_named_scalar _ _ _ _ rfl

/-- The key projection's block: a product with the key weights. -/
theorem pay0_apply (x : Vec Ideal S1x2048x1024 .f32) (w : Vec Ideal S1024x128 .f32) (a : Fin 1) (i : Fin 2048) (d : Fin 128) :
    k0_pay1 (F := Ideal) x w (ix3 a i d) = ∑ e : Fin 1024, x (ix3 0 i e) * w (ix2 e d) := by
  pointwise [k0_pay1]

/-- The query projection's block: a product with the query weights. -/
theorem pay1_apply (x : Vec Ideal S1x2048x1024 .f32) (w : Vec Ideal S1024x128 .f32) (a : Fin 1) (i : Fin 2048) (d : Fin 128) :
    k1_pay1 (F := Ideal) x w (ix3 a i d) = ∑ e : Fin 1024, x (ix3 0 i e) * w (ix2 e d) := by
  pointwise [k1_pay1]

/-- The scores' block: for query `i` of the block, the shifted logarithm of the sum of exponentials of its scaled
    products with every key. -/
theorem pay2_apply (k : Vec Ideal S1x2048x128 .bf16) (q : Vec Ideal S1x512x128 .bf16) (a b : Fin 1) (i : Fin 512) :
    k2_pay1 (F := Ideal) k q (ix3 a b i)
      = shiftedLse fun j : Fin 2048 => (∑ d : Fin 128, k (ix3 0 j d) * q (ix3 0 i d)) * (((Real.sqrt 128)⁻¹ : ℝ) : EReal) := by
  pointwise [k2_pay1]
  rw [named_scale, ofBits_neg_inf]
  rfl

/-- The first chunk's counts are places. -/
theorem pay5_apply (s : Vec Ideal S1x1x2048 .f32) (i : Fin 512) :
    k3_pay5 (F := Ideal) s (ix1 i) = BitVec.ofNat 32 (place (fun j => s (ix3 0 0 j)) ⟨i.val, by omega⟩) := by
  pointwise [k3_pay5, k3_pay3, k3_pay4]
  exact count_eq_place (fun j => s (ix3 0 0 j)) ⟨i.val, by omega⟩ _ (BitVec.add_zero _)

/-- The second chunk's counts are places. -/
theorem pay6_apply (s : Vec Ideal S1x1x2048 .f32) (i : Fin 512) :
    k3_pay6 (F := Ideal) s (ix1 i) = BitVec.ofNat 32 (place (fun j => s (ix3 0 0 j)) ⟨512 + i.val, by omega⟩) := by
  pointwise [k3_pay6, k3_pay3, k3_pay4]
  exact count_eq_place (fun j => s (ix3 0 0 j)) ⟨512 + i.val, by omega⟩ _
    ((BitVec.ofNat_add ..).symm.trans (by rw [Nat.add_comm]))

/-- THE COUNTS OF ALL FOUR CHUNKS, end to end: each position's word is its place among the scores. -/
theorem count_apply (s : Vec Ideal S1x1x2048 .f32) (h : Vec Ideal S1x2048x1024 .f32) (i : Fin 2048) :
    k3_pay9 (F := Ideal) (k3_pay3 s) (k3_pay4 s) (k3_pay5 s) (k3_pay6 s) (k3_pay7 s) k3_pay8 (k3_pay12 s h) (ix1 i)
      = BitVec.ofNat 32 (place (fun j => s (ix3 0 0 j)) i) := by
  have hi := i.isLt
  pointwise [k3_pay9, k3_pay3, k3_pay4, k3_pay7, k3_pay8, k3_pay12]
  split
  · rename_i h0
    exact pay5_apply s ⟨i.val, h0⟩
  split
  · rename_i h0 h1
    refine (pay6_apply s ⟨i.val - 512, h1⟩).trans ?_
    congr 2
    exact Fin.ext (by show 512 + (i.val - 512) = i.val; omega)
  split
  · rename_i h0 h1 h2
    refine (count_eq_place (fun j => s (ix3 0 0 j)) ⟨1024 + (i.val - 512 - 512), by omega⟩ _
      ((BitVec.ofNat_add ..).symm.trans (by rw [Nat.add_comm]))).trans ?_
    congr 2
    exact Fin.ext (by show 1024 + (i.val - 512 - 512) = i.val; omega)
  · rename_i h0 h1 h2
    refine (count_eq_place (fun j => s (ix3 0 0 j)) ⟨1536 + (i.val - 512 - 512 - 512), by omega⟩ _
      ((BitVec.ofNat_add ..).symm.trans (by rw [Nat.add_comm]))).trans ?_
    congr 2
    exact Fin.ext (by show 1536 + (i.val - 512 - 512 - 512) = i.val; omega)

/-- The selection's block of indices: the `k`-th is the position that the scores' descending stable sort puts `k`-th. -/
theorem idx_apply (s : Vec Ideal S1x1x2048 .f32) (h : Vec Ideal S1x2048x1024 .f32) (a b : Fin 1) (k : Fin 256) :
    k3_pay1 (k3_pay11 (F := Ideal) (k3_pay3 s) (k3_pay4 s) (k3_pay5 s) (k3_pay6 s) (k3_pay7 s) k3_pay8 (k3_pay12 s h))
        (ix3 a b k)
      = BitVec.ofNat 32 (chosen (fun j => s (ix3 0 0 j)) k).val := by
  pointwise [k3_pay1, k3_pay11]
  simp only [count_apply]
  exact sum_eq_chosen _ k

/-- The selection's block of rows: the `k`-th is the row at the `k`-th selected position. -/
theorem rows_apply (s : Vec Ideal S1x1x2048 .f32) (h : Vec Ideal S1x2048x1024 .f32) (a : Fin 1) (k : Fin 256) (d : Fin 1024) :
    k3_pay2 (k3_pay10 (F := Ideal) (k3_pay3 s) (k3_pay4 s) (k3_pay5 s) (k3_pay6 s) (k3_pay7 s) k3_pay8 (k3_pay12 s h)) h
        (ix3 a k d)
      = h (ix3 0 (chosen (fun j => s (ix3 0 0 j)) k) d) := by
  pointwise [k3_pay2, k3_pay10]
  simp only [count_apply]
  exact onehot_eq_chosen _ k fun i => h (ix3 0 i d)

end Cert.KernelIdeal.Blocks

end

end
-- ==== Proof.Arrays.lean ====
/-
  What each call's result array holds once its grid has run, as a function of the arrays it reads: the blocks of the
  grid's points tile the array, and each point's block is the function's block there.
-/
module

public import proofs.«01_k».proof.Proof.Blocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Blocks Cert.Words Cert.Score

/-- The projection of every row of `x` by the weights `w`. -/
def proj (x : FVec Ideal S4x2048x1024 .f32) (w : FVec Ideal S1024x128 .f32) : FVec Ideal S4x2048x128 .bf16 :=
  fun y => ∑ e : Fin 1024, x (ix3 (y 0) (y 1) e) * w (ix2 e (y 2))

/-- The scaled products of batch `b`'s query `i` with every key. -/
def sims (q k : FVec Ideal S4x2048x128 .bf16) (b : Fin 4) (i : Fin 2048) : Fin 2048 → EReal :=
  fun j => (∑ d : Fin 128, k (ix3 b j d) * q (ix3 b i d)) * (((Real.sqrt 128)⁻¹ : ℝ) : EReal)

/-- Every query's score: the shifted logarithm of the sum of exponentials of its scaled products. -/
def scores (q k : FVec Ideal S4x2048x128 .bf16) : FVec Ideal S4x1x2048 .f32 :=
  fun y => shiftedLse (sims q k (y 0) (y 2))

/-- Batch `b`'s `k`-th selected position, from the scores. -/
def sel (s : FVec Ideal S4x1x2048 .f32) (b : Fin 4) (k : Fin 256) : Fin 2048 := chosen (fun j => s (ix3 b 0 j)) k

/-- The selected positions, as words. -/
def indices (s : FVec Ideal S4x1x2048 .f32) : IVec S4x1x256 32 := fun y => BitVec.ofNat 32 (sel s (y 0) (y 2)).val

/-- The rows of `h` at the selected positions. -/
def rows (s : FVec Ideal S4x1x2048 .f32) (h : FVec Ideal S4x2048x1024 .f32) : FVec Ideal S4x256x1024 .f32 :=
  fun y => h (ix3 (y 0) (sel s (y 0) (y 1)) (y 2))

/-! ## The windows' block indices, at every grid point -/

/-- Of the first call: the batch on rows, the weights whole. -/
theorem idx0 : ∀ t : Fin cfg0.N, win0_0.index t = ![(grid0.coords t 0).val, 0, 0] ∧ win0_1.index t = ![0, 0]
    ∧ win0_2.index t = ![(grid0.coords t 0).val, 0, 0] :=
  (by decide +kernel : ∀ t : Fin grid0.N, _)

/-- Of the second call: the batch on rows, the weights whole. -/
theorem idx1 : ∀ t : Fin cfg1.N, win1_0.index t = ![(grid1.coords t 0).val, 0, 0] ∧ win1_1.index t = ![0, 0]
    ∧ win1_2.index t = ![(grid1.coords t 0).val, 0, 0] :=
  (by decide +kernel : ∀ t : Fin grid1.N, _)

/-- Of the third call: the batch and the block of 512 queries, all the keys of the batch. -/
theorem idx2 : ∀ t : Fin cfg2.N, win2_0.index t = ![(grid2.coords t 0).val, (grid2.coords t 1).val, 0]
    ∧ win2_1.index t = ![(grid2.coords t 0).val, 0, 0]
    ∧ win2_2.index t = ![(grid2.coords t 0).val, 0, (grid2.coords t 1).val] :=
  (by decide +kernel : ∀ t : Fin grid2.N, _)

/-- Of the fourth call: the batch. -/
theorem idx3 : ∀ t : Fin cfg3.N, win3_0.index t = ![(grid3.coords t 0).val, 0, 0]
    ∧ win3_1.index t = ![(grid3.coords t 0).val, 0, 0] ∧ win3_2.index t = ![(grid3.coords t 0).val, 0, 0]
    ∧ win3_3.index t = ![(grid3.coords t 0).val, 0, 0] :=
  (by decide +kernel : ∀ t : Fin grid3.N, _)

/-! ## The arrays -/

variable (V : (c : Dev nD) → (b : Ref sig .tc) → Buf (Elt Ideal) ((c : Thread nD τ).loc b))

/-- The first call leaves the key projection. -/
theorem arr0 (c : Dev nD) : (dat0 V c).arrAt 2 cfg0.N = proj (V c main_arg0) (V c main_arg3) := by
  refine (dat0 V c).arrAt_eq_of_covers 2 _ (by decide +kernel) fun t hf y => ?_
  blk_simp
  rw [after0_2]
  frame_out
  idx_vars y
  refine (pay0_apply _ _ _ _ _).trans ?_
  unfold proj
  blk_point [iblk0, idx0 t]

/-- The second call leaves the query projection. -/
theorem arr1 (c : Dev nD) : (dat1 V c).arrAt 2 cfg1.N = proj (V c main_arg1) (V c main_arg2) := by
  refine (dat1 V c).arrAt_eq_of_covers 2 _ (by decide +kernel) fun t hf y => ?_
  blk_simp
  rw [after1_2]
  frame_out
  idx_vars y
  refine (pay1_apply _ _ _ _ _).trans ?_
  unfold proj
  blk_point [iblk1, idx1 t]

/-- The third call leaves the scores. -/
theorem arr2 (c : Dev nD) : (dat2 V c).arrAt 2 cfg2.N = scores (V c main_v1) (V c main_v0) := by
  refine (dat2 V c).arrAt_eq_of_covers 2 _ (by decide +kernel) fun t hf y => ?_
  blk_simp
  rw [after2_2]
  frame_out
  idx_vars y
  refine (pay2_apply _ _ _ _ _).trans ?_
  unfold scores
  refine congrArg shiftedLse (funext fun j => ?_)
  unfold sims
  blk_point [iblk2, idx2 t]

/-- A point of the fourth call selects from its own batch's scores. -/
theorem sel_block (c : Dev nD) (t : Fin cfg3.N) (b : Fin 4) (k k' : Fin 256)
    (hb : b.val = (grid3.coords t 0).val) (hk : k' = k) :
    chosen (fun j => (iblk3 V c 0 t : FVec Ideal S1x1x2048 .f32) (ix3 0 0 j)) k = sel (V c main_v2) b k' := by
  subst hk
  unfold sel
  refine congrArg (fun f => chosen f k') (funext fun j => ?_)
  blk_ext [iblk3, idx3 t]

/-- The fourth call leaves the selected positions' words. -/
theorem arr3_idx (c : Dev nD) : (dat3 V c).arrAt 2 cfg3.N = indices (V c main_v2) := by
  refine (dat3 V c).arrAt_eq_of_covers 2 _ (by decide +kernel) fun t hf y => ?_
  blk_simp
  rw [after3_2]
  unfold_out out3_2
  frame_out
  idx_vars y
  refine (idx_apply _ (iblk3 V c 1 t) _ _ _).trans ?_
  unfold indices
  have hb : ((((cfg3.win 2).blk t).view.emb (ix3 y0 y1 y2)) 0).val = (grid3.coords t 0).val := by
    blk_simp [idx3 t]
  have hk : (((cfg3.win 2).blk t).view.emb (ix3 y0 y1 y2)) 2 = y2 := Fin.ext (by blk_simp [idx3 t])
  exact congrArg (fun i : Fin 2048 => BitVec.ofNat 32 i.val) (sel_block V c t _ _ _ hb hk)

/-- A point of the fourth call reads its own batch's rows. -/
theorem row_block (c : Dev nD) (t : Fin cfg3.N) (b : Fin 4) (i : Fin 2048) (d d' : Fin 1024)
    (hb : b.val = (grid3.coords t 0).val) (hd : d' = d) :
    (iblk3 V c 1 t : FVec Ideal S1x2048x1024 .f32) (ix3 0 i d)
      = (V c main_arg1 : FVec Ideal S4x2048x1024 .f32) (ix3 b i d') := by
  subst hd
  blk_ext [iblk3, idx3 t]

/-- The fourth call leaves the rows at the selected positions. -/
theorem arr3_rows (c : Dev nD) : (dat3 V c).arrAt 3 cfg3.N = rows (V c main_v2) (V c main_arg1) := by
  refine (dat3 V c).arrAt_eq_of_covers 3 _ (by decide +kernel) fun t hf y => ?_
  blk_simp
  rw [after3_3]
  unfold_out out3_3
  frame_out
  idx_vars y
  refine (rows_apply _ _ _ _ _).trans ?_
  unfold rows
  have hb : ((((cfg3.win 3).blk t).view.emb (ix3 y0 y1 y2)) 0).val = (grid3.coords t 0).val := by
    blk_simp [idx3 t]
  have hk : (((cfg3.win 3).blk t).view.emb (ix3 y0 y1 y2)) 1 = y1 := Fin.ext (by blk_simp [idx3 t])
  have hd : (((cfg3.win 3).blk t).view.emb (ix3 y0 y1 y2)) 2 = y2 := Fin.ext (by blk_simp [idx3 t])
  exact (congrArg (fun i : Fin 2048 => (iblk3 V c 1 t : FVec Ideal S1x2048x1024 .f32) (ix3 0 i y2))
    (sel_block V c t _ _ _ hb hk)).trans (row_block V c t _ _ _ _ hb hd)

end Cert.KernelIdeal.Arrays

end

end
-- ==== Proof.Run.lean ====
/-
  What the kernel's program leaves in its results, as a function of its arguments: the four calls in turn, then the two
  reshapes that drop the middle axis.
-/
module

public import proofs.«01_k».proof.Proof.Arrays

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Run

open Cert.KernelIdeal Cert.KernelIdeal.Gen Cert.KernelIdeal.Arrays

variable (m : (ℓ : Loc nD τ sig) → Buf (Elt Ideal) ℓ) (ρ : Dev nD → PrngReg)

/-- The scores the program computes from its arguments. -/
def score (c : Dev nD) : FVec Ideal S4x1x2048 .f32 :=
  scores (proj (m ((c.tc : Thread nD τ).loc main_arg1)) (m ((c.tc : Thread nD τ).loc main_arg2)))
    (proj (m ((c.tc : Thread nD τ).loc main_arg0)) (m ((c.tc : Thread nD τ).loc main_arg3)))

/-- After the first call its result is the keys' projection. -/
theorem keys (c : Dev nD) : W1 m ρ c (Proc.devRef .tc main_v0)
    = proj (m ((c.tc : Thread nD τ).loc main_arg0)) (m ((c.tc : Thread nD τ).loc main_arg3)) :=
  (W1_arr m ρ c 2).trans (arr0 (V0 m ρ) c)

/-- After the second call its result is the queries' projection. -/
theorem queries (c : Dev nD) : W2 m ρ c (Proc.devRef .tc main_v1)
    = proj (m ((c.tc : Thread nD τ).loc main_arg1)) (m ((c.tc : Thread nD τ).loc main_arg2)) := by
  refine (W2_arr m ρ c 2).trans ((arr1 (V1 m ρ) c).trans ?_)
  exact congrArg₂ proj (W1_args m ρ c main_arg1 (by decide)) (W1_args m ρ c main_arg2 (by decide))

/-- After the third call its result is the scores. -/
theorem scored (c : Dev nD) : W3 m ρ c (Proc.devRef .tc main_v2) = score m c := by
  refine (W3_arr m ρ c 2).trans ((arr2 (V2 m ρ) c).trans ?_)
  exact congrArg₂ scores (queries m ρ c)
    ((W2_of m ρ c main_v0 (by decide)).trans (keys m ρ c))

/-- After the fourth call the first result is the selected positions. -/
theorem positions (c : Dev nD) : W4 m ρ c (Proc.devRef .tc main_v3_0) = indices (score m c) :=
  (W4_arr m ρ c 2).trans ((arr3_idx (V3 m ρ) c).trans (congrArg indices (scored m ρ c)))

/-- After the fourth call the second result is the selected rows. -/
theorem selected (c : Dev nD) : W4 m ρ c (Proc.devRef .tc main_v3_1)
    = rows (score m c) (m ((c.tc : Thread nD τ).loc main_arg1)) :=
  (W4_arr m ρ c 3).trans ((arr3_rows (V3 m ρ) c).trans
    (congrArg₂ rows (scored m ρ c) (W3_args m ρ c main_arg1 (by decide))))

/-- The program ends with the selected rows. -/
theorem end_rows (c : Dev nD) : W5 m ρ c (Proc.devRef .tc main_v3_1)
    = rows (score m c) (m ((c.tc : Thread nD τ).loc main_arg1)) :=
  (W5_of m ρ c main_v3_1 (by decide)).trans (selected m ρ c)

/-- The selected positions, the middle axis dropped. -/
def flatIndices (s : FVec Ideal S4x1x2048 .f32) : IVec S4x256 32 := fun y => indices s (ix3 (y 0) 0 (y 1))

/-- The scores, the middle axis dropped. -/
def flatScores (s : FVec Ideal S4x1x2048 .f32) : FVec Ideal S4x2048 .f32 := fun y => s (ix3 (y 0) 0 (y 1))

/-- Reshaping the positions drops the middle axis. -/
theorem reshape_indices (s : IVec S4x1x256 32) :
    shapeCast S4x256 s shapeCasts_S4x1x256_S4x256 = fun y => s (ix3 (y 0) 0 (y 1)) := by
  funext y
  idx_vars y
  pointwise
  all_goals rfl

/-- Reshaping the scores drops the middle axis. -/
theorem reshape_scores (s : FVec Ideal S4x1x2048 .f32) :
    shapeCast S4x2048 s shapeCasts_S4x1x2048_S4x2048 = flatScores s := by
  funext y
  idx_vars y
  unfold flatScores
  pointwise
  all_goals rfl

/-- The program ends with the selected positions. -/
theorem end_positions (c : Dev nD) : W5 m ρ c (Proc.devRef .tc main_v4) = flatIndices (score m c) := by
  refine Eq.trans (b := shapeCast S4x256 (W4 m ρ c (Proc.devRef .tc main_v3_0)) shapeCasts_S4x1x256_S4x256) ?_ ?_
  · after_results_simp <;> rfl
  · rw [positions]
    exact reshape_indices _

/-- The program ends with the scores. -/
theorem end_scores (c : Dev nD) : W5 m ρ c (Proc.devRef .tc main_v5) = flatScores (score m c) := by
  refine Eq.trans (b := shapeCast S4x2048 (W4 m ρ c (Proc.devRef .tc main_v2)) shapeCasts_S4x1x2048_S4x2048) ?_ ?_
  · after_results_simp <;> rfl
  · rw [W4_of m ρ c main_v2 (by decide), scored]
    exact reshape_scores _

set_option backward.isDefEq.respectTransparency.types false in
/-- Every weakly fair execution of the program ends with the selected rows, their positions and the scores as stated, and
    its arguments as launched. -/
theorem run : θ_run defs (onTc (τ := τ) (main (F := Ideal))) ⟨m, fun _ => 0, ρ⟩ (fun r => ∀ c : Dev nD,
      r.2.mem ((c.tc : Thread nD τ).loc main_v3_1) = rows (score m c) (m ((c.tc : Thread nD τ).loc main_arg1))
      ∧ r.2.mem ((c.tc : Thread nD τ).loc main_v4) = flatIndices (score m c)
      ∧ r.2.mem ((c.tc : Thread nD τ).loc main_v5) = flatScores (score m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v3_1 (by decide))).trans (end_rows m ρ c),
       (h c _ (mem_uc main_v4 (by decide))).trans (end_positions m ρ c),
       (h c _ (mem_uc main_v5 (by decide))).trans (end_scores m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Run

end

end
-- ==== Proof.Reference.lean ====
/-
  The reference's three results at an index: the score of a query, the positions its sort puts first, and the rows read
  at those positions.
-/
module

public import proofs.«01_k».proof.Defs
public import proofs.«01_k».proof.Proof.Gen.ReferenceIdeal.Run
public import proofs.«01_k».proof.Proof.Arrays
public import Idealize.ShloMosaic.Lib.Pointwise
public import Idealize.ShloMosaic.Lib.Tactic.CleanTypes

@[expose] public section

set_option maxRecDepth 16384

noncomputable section

open Idealize.ShloMosaic Idealize.SL.Sem

namespace Cert.ReferenceIdeal.Value

open Cert.ReferenceIdeal Cert.ReferenceIdeal.Gen
open Cert.Score Cert.Order Cert.Words Cert.KernelIdeal.Arrays

/-- The reference's scores, as its operations compose them. -/
def scoreArr (x h : FVec Ideal S4x2048x1024 .f32) (wq wk : FVec Ideal S1024x128 .f32) : FVec Ideal S4x2048 .f32 :=
  Host.log (Host.reduceAdd (Host.exp (mulf (Host.dotGeneral dot_S4x2048x128_S4x128x2048_S4x2048x2048_2_1_1_2_0_0 none
    (Host.dotGeneral dot_S4x2048x1024_S1024x128_S4x2048x128_2_0_01_1_n_n none h wq)
    (transpose S4x128x2048 [0, 2, 1] (Host.dotGeneral dot_S4x2048x1024_S1024x128_S4x2048x128_2_0_01_1_n_n none x wk)
      transposes_S4x2048x128_S4x128x2048_0_2_1))
    (broadcastInDim S4x2048x2048 ![] bcast_S_S4x2048x2048
      (Host.divf (constant S_ .f32 0x3F800000#32) (Host.sqrt (constant S_ .f32 0x43000000#32))))))
    (constant S_ .f32 0x00000000#32) reducesTo_S4x2048x2048_S4x2048_d2 h_S_)

/-- The reference's score of a query is the logarithm of the sum of exponentials of its scaled products. -/
theorem scoreArr_apply (x h : FVec Ideal S4x2048x1024 .f32) (wq wk : FVec Ideal S1024x128 .f32) (b : Fin 4)
    (i : Fin 2048) : scoreArr x h wq wk (ix2 b i) = lse (sims (proj h wq) (proj x wk) b i) := by
  pointwise [scoreArr]
  unfold lse sims
  refine congrArg Ideal.log (Finset.sum_congr rfl fun j _ => congrArg Ideal.exp ?_)
  rw [scale_eq]
  exact congrArg (· * (((Real.sqrt 128)⁻¹ : ℝ) : EReal)) (Finset.sum_congr rfl fun d _ => mul_comm _ _)

/-- The reference's selected positions, from its scores. -/
def topIdx (s : FVec Ideal S4x2048 .f32) : IVec S4x256 32 :=
  (Host.topK S4x256 1 (FloatOps.cmpfTotal .gt) s sliceFits_S4x2048_S4x256).2

/-- The sort's comparison puts the larger value first. -/
theorem cmp_eq (a b : EReal) :
    (FloatOps.cmpfTotal (F := Ideal) (φ := .f32) .gt a b == 1#1) = decide (b < a) := by
  show (BitVec.ofBool (decide (b < a)) == 1#1) = decide (b < a)
  cases decide (b < a) <;> rfl

/-- Position `k` of the fibre through `(b, i)` along the second axis is `(b, k)`. -/
theorem along_second (b : Fin 4) (i k : Fin 2048) :
    ((ix2 b i : S4x2048.Idx).along 1 k) = ix2 b k := by
  funext a
  match a with
  | ⟨0, _⟩ => rfl
  | ⟨1, _⟩ => rfl

/-- The `k`-th selected position is the one sorted `k`-th. -/
theorem topIdx_apply (s : FVec Ideal S4x2048 .f32) (b : Fin 4) (k : Fin 256) :
    topIdx s (ix2 b k) = BitVec.ofNat 32 (chosen (fun j => s (ix2 b j)) k).val := by
  pointwise [topIdx, Host.topK, Host.sort2]
  simp only [cmp_eq]
  simp only [along_second]
  unfold chosen
  rw [← sortedFrom_key]
  rfl

/-- The gather down the second axis reads each batch's row at the index word, read signed and clamped into the axis. -/
theorem gather_apply (h : FVec Ideal S4x2048x1024 .f32) (idx : IVec S4x256x1 32) (b : Fin 4) (k : Fin 256)
    (d : Fin 1024) : Host.gather gather_S4x2048x1024_S4x256x1_S4x256x1024_2_1_0_0_1_2_111024 h idx (ix3 b k d)
      = h (ix3 b ⟨min (idx (ix3 b k 0)).toInt.toNat 2047, by omega⟩ d) := by
  generalize hD : gather_S4x2048x1024_S4x256x1_S4x256x1024_2_1_0_0_1_2_111024 = D
  have hbatch : D.operandBatchingDims = [0] := by rw [← hD]; rfl
  have hcoll : D.collapsedSliceDims = [1] := by rw [← hD]; rfl
  have hmap : D.startIndexMap = [1] := by rw [← hD]; rfl
  refine congrArg h (funext fun a => Fin.ext ?_)
  show D.start (ix3 b k d) idx a + D.batchCoord (ix3 b k d) a + D.offCoord (ix3 b k d) a = _
  have axes : a = (0 : Fin 3) ∨ a = (1 : Fin 3) ∨ a = (2 : Fin 3) := by
    revert a
    decide
  rcases axes with rfl | rfl | rfl
  · rw [GatherDims.start_batching _ _ _ _ (by rw [hbatch]; exact List.mem_singleton.mpr rfl),
      GatherDims.offCoord_eq_zero _ _ _ (fun hk => ((GatherDims.mem_sKept _ _).mp hk).2
        (by rw [hbatch]; exact List.mem_singleton.mpr rfl))]
    simp only [Nat.zero_add, Nat.add_zero]
    unfold GatherDims.batchCoord
    rw [dif_pos (by rw [hbatch]; exact List.mem_singleton.mpr rfl)]
    subst hD
    rfl
  · rw [GatherDims.batchCoord_eq_zero _ _ _ (by rw [hbatch]; decide),
      GatherDims.offCoord_eq_zero _ _ _ (fun hk => ((GatherDims.mem_sKept _ _).mp hk).1
        (by rw [hcoll]; exact List.mem_singleton.mpr rfl))]
    simp only [Nat.add_zero]
    unfold GatherDims.start
    rw [dif_pos (by rw [hmap]; exact List.mem_singleton.mpr rfl)]
    subst hD
    refine congrArg (fun w : BitVec 32 => min w.toInt.toNat 2047) (congrArg idx (funext fun c => Fin.ext ?_))
    match c with
    | ⟨0, _⟩ => rfl
    | ⟨1, _⟩ => rfl
    | ⟨2, _⟩ => rfl
  · rw [GatherDims.batchCoord_eq_zero _ _ _ (by rw [hbatch]; decide)]
    simp only [Nat.add_zero]
    unfold GatherDims.start GatherDims.offCoord
    rw [dif_neg (by rw [hmap]; decide), dif_pos (by rw [GatherDims.mem_sKept, hcoll, hbatch]; decide)]
    simp only [Nat.zero_add]
    subst hD
    rfl

/-- A position's word is not below zero. -/
theorem word_slt (i : Fin 2048) : IntOp.cmpi .slt (BitVec.ofNat 32 i.val) (0#32) = 0#1 := by
  revert i
  decide +kernel

/-- A position's word is at least zero and at most the last position. -/
theorem word_range (i : Fin 2048) : IntOp.andi (IntOp.cmpi .sge (BitVec.ofNat 32 i.val) (0#32))
    (IntOp.cmpi .sle (BitVec.ofNat 32 i.val) (2047#32)) = 1#1 := by
  revert i
  decide +kernel

/-- A position's word, read signed and clamped into the axis, is the position. -/
theorem word_read (i : Fin 2048) : min (BitVec.ofNat 32 i.val).toInt.toNat 2047 = i.val := by
  revert i
  decide +kernel

/-- A conjunction of ones is one. -/
theorem fold_ones {ι : Type} (S : Finset ι) : S.fold IntOp.andi (1#1) (fun _ => 1#1) = 1#1 := by
  classical
  induction S using Finset.induction_on with
  | empty => rfl
  | insert a S ha ih =>
    rw [Finset.fold_insert ha, ih]
    rfl

/-- THE REFERENCE'S ROWS. Where the selected positions are `p`, row `k` of batch `b` is the second argument's row `p b k`:
    no position wraps and none is out of range. -/
theorem res_apply (m : (ℓ : Loc nD τ sig) → Buf (Elt Ideal) ℓ) (c : Dev nD) (idx : IVec S4x256 32)
    (hidx : topIdx (scoreArr (m ((c.tc : Thread nD τ).loc main_arg0)) (m ((c.tc : Thread nD τ).loc main_arg1))
      (m ((c.tc : Thread nD τ).loc main_arg2)) (m ((c.tc : Thread nD τ).loc main_arg3))) = idx)
    (p : Fin 4 → Fin 256 → Fin 2048) (hp : ∀ b k, idx (ix2 b k) = BitVec.ofNat 32 (p b k).val)
    (b : Fin 4) (k : Fin 256) (d : Fin 1024) :
    (res_main_v12 (F := Ideal) m c : FVec Ideal S4x256x1024 .f32) (ix3 b k d)
      = (m ((c.tc : Thread nD τ).loc main_arg1) : FVec Ideal S4x2048x1024 .f32) (ix3 b (p b k) d) := by
  unfold res_main_v12
  simp only [topIdx, scoreArr] at hidx
  simp only [hidx]
  clean_types
  pointwise []
  rw [gather_apply]
  pointwise []
  have keep : ∀ u v : BitVec 32, Scalar.select (0#1) u v = v := fun _ _ => rfl
  simp only [hp, word_slt, keep, word_range, fold_ones]
  exact congrArg (fun i : Fin 2048 => (m ((c.tc : Thread nD τ).loc main_arg1) : FVec Ideal S4x2048x1024 .f32) (ix3 b i d))
    (Fin.ext (word_read (p b k)))

end Cert.ReferenceIdeal.Value

end

end
-- ==== Proof.Finite.lean ====
/-
  What the precondition says: every entry of every argument is a real number. It is what makes the kernel's shifted
  logarithm of a sum of exponentials the plain one.
-/
module

public import proofs.«01_k».proof.Defs
public import proofs.«01_k».proof.Proof.Gen.Pre_finite
public import proofs.«01_k».proof.Proof.Arrays
public import Idealize.ShloMosaic.Lib.Pointwise

@[expose] public section

set_option maxRecDepth 16384

noncomputable section

open Idealize.ShloMosaic Idealize.SL.Sem

namespace Cert.Finite

open Cert.Score Cert.KernelIdeal.Arrays

/-- A conjunction of bits that is one has every bit one. -/
theorem bits_of_fold {ι : Type} [DecidableEq ι] (S : Finset ι) (v : ι → BitVec 1)
    (h : S.fold IntOp.andi (1#1) v = 1#1) : ∀ i ∈ S, v i = 1#1 := by
  induction S using Finset.induction_on with
  | empty => intro i hi; exact absurd hi (Finset.notMem_empty i)
  | insert a S ha ih =>
    rw [Finset.fold_insert ha] at h
    have both : ∀ p q : BitVec 1, IntOp.andi p q = 1#1 → p = 1#1 ∧ q = 1#1 := by decide
    obtain ⟨h1, h2⟩ := both _ _ h
    intro i hi
    rcases Finset.mem_insert.mp hi with rfl | hi
    · exact h1
    · exact ih h2 i hi

/-- The same over a whole index type. -/
theorem bits_of_fold_univ {ι : Type} [Fintype ι] (v : ι → BitVec 1)
    (h : Finset.univ.fold IntOp.andi (1#1) v = 1#1) (i : ι) : v i = 1#1 := by
  classical exact bits_of_fold Finset.univ v h i (Finset.mem_univ i)

/-- A value whose absolute value tests below the infinity's pattern is real. -/
theorem isReal_of_test (a : EReal)
    (h : BitVec.ofBool (decide (FloatOps.absf (F := Ideal) (φ := .f32) a < Ideal.ofBits .f32 2139095040#32)) = 1#1) :
    IsReal a := by
  have e : decide (FloatOps.absf (F := Ideal) (φ := .f32) a < Ideal.ofBits .f32 2139095040#32) = true := by
    revert h
    generalize decide (FloatOps.absf (F := Ideal) (φ := .f32) a < Ideal.ofBits .f32 2139095040#32) = p
    revert p
    decide
  have l := of_decide_eq_true e
  rw [ofBits_inf] at l
  exact isReal_of_abs_lt a l

/-- Under the precondition every entry of the four arguments is real. -/
theorem entries (x h : FVec Ideal Cert.Pre_finite.S4x2048x1024 .f32) (wq wk : FVec Ideal Cert.Pre_finite.S1024x128 .f32)
    (hp : Cert.Pre_finite.fn (F := Ideal) x h wq wk = fun _ => 1#1) :
    (∀ b i e, IsReal (x (ix3 b i e))) ∧ (∀ b i e, IsReal (h (ix3 b i e)))
      ∧ (∀ e d, IsReal (wq (ix2 e d))) ∧ (∀ e d, IsReal (wk (ix2 e d))) := by
  have h2 := congrFun hp ix0
  pointwise [Cert.Pre_finite.fn, Cert.Pre_finite.fn_part1] at h2
  have both : ∀ p q : BitVec 1, IntOp.andi p q = 1#1 → p = 1#1 ∧ q = 1#1 := by decide
  obtain ⟨h3, h4⟩ := both _ _ h2
  obtain ⟨h5, h6⟩ := both _ _ h3
  obtain ⟨h7, h8⟩ := both _ _ h5
  refine ⟨fun b i e => ?_, fun b i e => ?_, fun e d => ?_, fun e d => ?_⟩
  · have t := bits_of_fold_univ _ h7 (b, i, e)
    exact isReal_of_test _ t
  · have t := bits_of_fold_univ _ h8 (b, i, e)
    exact isReal_of_test _ t
  · have t := bits_of_fold_univ _ h6 (e, d)
    exact isReal_of_test _ t
  · have t := bits_of_fold_univ _ h4 (e, d)
    exact isReal_of_test _ t

/-- A projection of real entries is real. -/
theorem proj_real (x : FVec Ideal Cert.KernelIdeal.S4x2048x1024 .f32) (w : FVec Ideal Cert.KernelIdeal.S1024x128 .f32)
    (hx : ∀ b i e, IsReal (x (ix3 b i e))) (hw : ∀ e d, IsReal (w (ix2 e d))) (b : Fin 4) (i : Fin 2048) (d : Fin 128) :
    IsReal (proj x w (ix3 b i d)) :=
  IsReal.sum fun e => (hx b i e).mul (hw e d)

/-- The scaled products of real projections are real. -/
theorem sims_real (q k : FVec Ideal Cert.KernelIdeal.S4x2048x128 .bf16)
    (hq : ∀ b i d, IsReal (q (ix3 b i d))) (hk : ∀ b i d, IsReal (k (ix3 b i d))) (b : Fin 4) (i j : Fin 2048) :
    IsReal (sims q k b i j) :=
  (IsReal.sum fun d => (hk b j d).mul (hq b i d)).mul ⟨_, rfl⟩

/-- Under the precondition every score is the plain logarithm of the sum of exponentials. -/
theorem scores_plain (x h : FVec Ideal Cert.Pre_finite.S4x2048x1024 .f32)
    (wq wk : FVec Ideal Cert.Pre_finite.S1024x128 .f32)
    (hp : Cert.Pre_finite.fn (F := Ideal) x h wq wk = fun _ => 1#1) (b : Fin 4) (i : Fin 2048) :
    scores (proj h wq) (proj x wk) (ix3 b 0 i) = lse (sims (proj h wq) (proj x wk) b i) := by
  obtain ⟨hx, hh, hq, hk⟩ := entries x h wq wk hp
  exact shiftedLse_eq_lse _ fun j => sims_real _ _ (proj_real h wq hh hq) (proj_real x wk hx hk) b i j

end Cert.Finite

end

end
-- ==== Proof.Equal.lean ====
/-
  The two programs' results are equal: from equal arguments of real entries the reference's composed terms are the
  arrays the kernel's calls leave.
-/
module

public import proofs.«01_k».proof.Proof.Run
public import proofs.«01_k».proof.Proof.Reference
public import proofs.«01_k».proof.Proof.Finite

@[expose] public section

set_option maxRecDepth 16384

noncomputable section

open Idealize.ShloMosaic Idealize.SL.Sem

namespace Cert.Equal

open Cert.KernelIdeal.Arrays Cert.KernelIdeal.Run Cert.ReferenceIdeal.Value Cert.Finite Cert.Words

variable (x h : FVec Ideal Cert.KernelIdeal.S4x2048x1024 .f32) (wq wk : FVec Ideal Cert.KernelIdeal.S1024x128 .f32)

/-- The scores agree. -/
theorem scores_eq (hp : Cert.Pre_finite.fn (F := Ideal) x h wq wk = fun _ => 1#1) :
    scoreArr x h wq wk = flatScores (scores (proj h wq) (proj x wk)) := by
  funext y
  idx_vars y
  exact (scoreArr_apply x h wq wk y0 y1).trans (scores_plain x h wq wk hp y0 y1).symm

/-- The selected positions agree, from any scores. -/
theorem positions_eq (s : FVec Ideal Cert.KernelIdeal.S4x1x2048 .f32) : topIdx (flatScores s) = flatIndices s := by
  funext y
  idx_vars y
  exact topIdx_apply (flatScores s) y0 y1

/-- The selected rows agree. -/
theorem rows_eq (m : (ℓ : Loc Cert.ReferenceIdeal.nD Cert.ReferenceIdeal.τ Cert.ReferenceIdeal.sig) → Buf (Elt Ideal) ℓ)
    (c : Dev Cert.ReferenceIdeal.nD)
    (hx : m ((c.tc : Thread Cert.ReferenceIdeal.nD Cert.ReferenceIdeal.τ).loc Cert.ReferenceIdeal.main_arg0) = x)
    (hh : m ((c.tc : Thread Cert.ReferenceIdeal.nD Cert.ReferenceIdeal.τ).loc Cert.ReferenceIdeal.main_arg1) = h)
    (hq : m ((c.tc : Thread Cert.ReferenceIdeal.nD Cert.ReferenceIdeal.τ).loc Cert.ReferenceIdeal.main_arg2) = wq)
    (hk : m ((c.tc : Thread Cert.ReferenceIdeal.nD Cert.ReferenceIdeal.τ).loc Cert.ReferenceIdeal.main_arg3) = wk)
    (hp : Cert.Pre_finite.fn (F := Ideal) x h wq wk = fun _ => 1#1) :
    res_main_v12 (F := Ideal) m c = rows (scores (proj h wq) (proj x wk)) h := by
  funext y
  idx_vars y
  subst hx hh hq hk
  exact res_apply m c (flatIndices _)
    ((congrArg topIdx (scores_eq _ _ _ _ hp)).trans (positions_eq _))
    (fun b k => sel (scores (proj _ _) (proj _ _)) b k) (fun _ _ => rfl) y0 y1 y2

end Cert.Equal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as launched and every counter at zero. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m ρ)

/-- From agreeing arguments of real entries, kernel and reference end with equal rows, positions and scores. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, _, _, Cert.KernelIdeal.Run.run m ρ, ?_⟩
  refine (θ_run (Cert.ReferenceIdeal.defs (F := Ideal)) _ _).mono (fun _ h c => ?_)
    (Cert.ReferenceIdeal.Value.run (F := Ideal) m' ρ')
  obtain ⟨hx, hh, hq, hk⟩ := hagree c
  have hs := Cert.Equal.scores_eq _ _ _ _ (hpre c)
  have hs' : Cert.ReferenceIdeal.Value.scoreArr _ _ _ _ = Cert.KernelIdeal.Run.flatScores (Cert.KernelIdeal.Run.score m c) :=
    (congr (congr (congr (congrArg Cert.ReferenceIdeal.Value.scoreArr hx) hh) hq) hk).trans hs
  exact ⟨(h c).1.trans (Cert.Equal.rows_eq _ _ _ _ m' c hx hh hq hk (hpre c)),
    (h c).2.1.trans ((congrArg Cert.ReferenceIdeal.Value.topIdx hs').trans (Cert.Equal.positions_eq _)),
    (h c).2.2.1.trans hs', (h c).2.2.2⟩

/-- Everything stated of the kernel and its reference. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "scale" .f32 0x3DB504F3#32 (((Real.sqrt 128)⁻¹ : ℝ) : EReal) rfl,
  results_equal⟩

end Cert.Proof

end
